-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x64 : Shape := ⟨3, ![16, 2048, 64]⟩
abbrev S_ : Shape := ⟨0, ![]⟩

class Facts : Prop where
  bcast_S_S16x2048x64 : S_.BroadcastsInDim S16x2048x64 (![] : Fin 0 → Fin S16x2048x64.rank)

variable [Facts]

def fn {F : FTy → Type} [FloatOps F] (main_arg0 : FVec F S16x2048x64 .f32) : IVec S16x2048x64 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  main_v2
-- ==== Kernel.lean ====
abbrev S16x2048x64 : Shape := ⟨3, ![16, 2048, 64]⟩
abbrev S16x2048x16 : Shape := ⟨3, ![16, 2048, 16]⟩
abbrev S1x512x64 : Shape := ⟨3, ![1, 512, 64]⟩
abbrev S1x2048x64 : Shape := ⟨3, ![1, 2048, 64]⟩
abbrev S1x512x16 : Shape := ⟨3, ![1, 512, 16]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S2048 : Shape := ⟨1, ![2048]⟩
abbrev S512x1 : Shape := ⟨2, ![512, 1]⟩
abbrev S1x2048 : Shape := ⟨2, ![1, 2048]⟩
abbrev S512x16 : Shape := ⟨2, ![512, 16]⟩

abbrev nBuf : Space → Nat
  | .hbm => 3
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x16, .i32⟩
  | .hbm, ⟨2, _⟩ => ⟨S16x2048x16, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x512x16, .i32⟩
  | .local _ .vmem, ⟨5, _⟩ => ⟨S1x512x16, .i32⟩
  | .local _ .vmem, ⟨6, _⟩ => ⟨S1x512x16, .f32⟩
  | .local _ .vmem, ⟨7, _⟩ => ⟨S1x512x16, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x2048x64 : Shape := ⟨3, ![16, 2048, 64]⟩
abbrev S_ : Shape := ⟨0, ![]⟩
abbrev S16x2048 : Shape := ⟨2, ![16, 2048]⟩
abbrev S16x2048x2048 : Shape := ⟨3, ![16, 2048, 2048]⟩
abbrev S16x2048x1 : Shape := ⟨3, ![16, 2048, 1]⟩
abbrev S16x1x2048 : Shape := ⟨3, ![16, 1, 2048]⟩
abbrev S2048x2048 : Shape := ⟨2, ![2048, 2048]⟩
abbrev S1x2048x2048 : Shape := ⟨3, ![1, 2048, 2048]⟩
abbrev S16x2048x16 : Shape := ⟨3, ![16, 2048, 16]⟩

abbrev nBuf : Space → Nat
  | .hbm => 52
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S_, .f32⟩
  | .hbm, ⟨3, _⟩ => ⟨S16x2048, .f32⟩
  | .hbm, ⟨4, _⟩ => ⟨S16x2048x2048, .f32⟩
  | .hbm, ⟨5, _⟩ => ⟨S16x2048x1, .f32⟩
  | .hbm, ⟨6, _⟩ => ⟨S16x1x2048, .f32⟩
  | .hbm, ⟨7, _⟩ => ⟨S16x2048x2048, .f32⟩
  | .hbm, ⟨8, _⟩ => ⟨S16x2048x2048, .f32⟩
  | .hbm, ⟨9, _⟩ => ⟨S16x2048x2048, .f32⟩
  | .hbm, ⟨10, _⟩ => ⟨S_, .f32⟩
  | .hbm, ⟨11, _⟩ => ⟨S16x2048x2048, .f32⟩
  | .hbm, ⟨12, _⟩ => ⟨S16x2048x2048, .f32⟩
  | .hbm, ⟨13, _⟩ => ⟨S16x2048x2048, .f32⟩
  | .hbm, ⟨14, _⟩ => ⟨S_, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S2048x2048, .i32⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i1⟩
  | .hbm, ⟨24, _⟩ => ⟨S1x2048x2048, .i1⟩
  | .hbm, ⟨25, _⟩ => ⟨S_, .f32⟩
  | .hbm, ⟨26, _⟩ => ⟨S_, .f32⟩
  | .hbm, ⟨27, _⟩ => ⟨S16x2048x2048, .i1⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x16, .f32⟩
  | .hbm, ⟨32, _⟩ => ⟨S16x2048x16, .i32⟩
  | .hbm, ⟨33, _⟩ => ⟨S16x2048x16, .f32⟩
  | .hbm, ⟨34, _⟩ => ⟨S16x2048x16, .f32⟩
  | .hbm, ⟨35, _⟩ => ⟨S_, .f32⟩
  | .hbm, ⟨36, _⟩ => ⟨S16x2048x16, .f32⟩
  | .hbm, ⟨37, _⟩ => ⟨S16x2048x16, .f32⟩
  | .hbm, ⟨38, _⟩ => ⟨S_, .f32⟩
  | .hbm, ⟨39, _⟩ => ⟨S16x2048, .f32⟩
  | .hbm, ⟨40, _⟩ => ⟨S_, .f32⟩
  | .hbm, ⟨41, _⟩ => ⟨S16x2048, .f32⟩
  | .hbm, ⟨42, _⟩ => ⟨S16x2048, .f32⟩
  | .hbm, ⟨43, _⟩ => ⟨S16x2048x1, .f32⟩
  | .hbm, ⟨44, _⟩ => ⟨S16x2048x16, .f32⟩
  | .hbm, ⟨45, _⟩ => ⟨S16x2048x16, .f32⟩
  | .hbm, ⟨46, _⟩ => ⟨S16x2048x16, .f32⟩
  | .hbm, ⟨47, _⟩ => ⟨S_, .f32⟩
  | .hbm, ⟨48, _⟩ => ⟨S16x2048, .f32⟩
  | .hbm, ⟨49, _⟩ => ⟨S16x2048x1, .f32⟩
  | .hbm, ⟨50, _⟩ => ⟨S16x2048x16, .f32⟩
  | .hbm, ⟨51, _⟩ => ⟨S16x2048x16, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_v21 : Ref sig .tc := ⟨.hbm, 30, rfl⟩
abbrev main_values : Ref sig .tc := ⟨.hbm, 31, rfl⟩
abbrev main_indices : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Proof.Select.lean ====
/-
  Selection by repeated minimum, on one row of extended reals.

  A row `D` is searched in rounds: a round takes the least entry of the working row, picks the FIRST column that holds it,
  and overwrites that column with `⊤`. This file shows that the columns picked in the first `K` rounds are the first `K`
  positions of a stable ascending sort of the row, as long as enough entries are below `⊤` (all but one column, more than
  `K` columns). Nothing here mentions a kernel.
-/
module

public import Idealize.ShloMosaic.Lib.SortPrefix
public import Idealize.ShloMosaic.PureOps.Ideal

@[expose] public section

noncomputable section

open Idealize.ShloMosaic

namespace Cert.NearestRounds

variable {n : Nat}

/-! ## One round -/

/-- The least entry of a row (`⊤` for an empty one). -/
def rowMin (w : Fin n → EReal) : EReal := Finset.univ.inf w

/-- The least entry is at most every entry. -/
theorem rowMin_le (w : Fin n → EReal) (c : Fin n) : rowMin w ≤ w c := Finset.inf_le (Finset.mem_univ c)

variable [NeZero n]

/-- Some column holds the least entry. -/
theorem exists_eq_rowMin (w : Fin n → EReal) : ∃ c, w c = rowMin w := by
  obtain ⟨c, -, hc⟩ := Finset.exists_mem_eq_inf Finset.univ ⟨(0 : Fin n), Finset.mem_univ _⟩ w
  exact ⟨c, hc.symm⟩

/-- The columns that hold the least entry. -/
def minColumns (w : Fin n → EReal) : Finset (Fin n) := Finset.univ.filter fun c => w c = rowMin w

/-- Some column has the least entry. -/
theorem minColumns_nonempty (w : Fin n → EReal) : (minColumns w).Nonempty := by
  obtain ⟨c, hc⟩ := exists_eq_rowMin w
  exact ⟨c, Finset.mem_filter.mpr ⟨Finset.mem_univ _, hc⟩⟩

/-- The first column that holds the least entry. -/
def argFirst (w : Fin n → EReal) : Fin n := (minColumns w).min' (minColumns_nonempty w)

/-- The picked column holds the least entry. -/
theorem argFirst_spec (w : Fin n → EReal) : w (argFirst w) = rowMin w :=
  (Finset.mem_filter.mp (Finset.min'_mem _ (minColumns_nonempty w))).2

/-- No earlier column holds it. -/
theorem argFirst_le (w : Fin n → EReal) (c : Fin n) (hc : w c = rowMin w) : argFirst w ≤ c :=
  Finset.min'_le (minColumns w) c (Finset.mem_filter.mpr ⟨Finset.mem_univ _, hc⟩)

/-- The row with the picked column overwritten by `⊤`. -/
def mask (w : Fin n → EReal) : Fin n → EReal := fun c => if c = argFirst w then ⊤ else w c

/-- The overwritten row at a column. -/
theorem mask_apply (w : Fin n → EReal) (c : Fin n) : mask w c = if c = argFirst w then ⊤ else w c := rfl

/-! ## The rounds -/

/-- The working row at the start of round `k`. -/
def work (D : Fin n → EReal) : Nat → Fin n → EReal
  | 0 => D
  | k + 1 => mask (work D k)

/-- The column round `k` picks. -/
def pick (D : Fin n → EReal) (k : Nat) : Fin n := argFirst (work D k)

/-- A column not picked before round `k` still holds its entry, a picked one holds `⊤`. -/
theorem work_eq (D : Fin n → EReal) (k : Nat) (c : Fin n) :
    ((∀ j < k, pick D j ≠ c) → work D k c = D c) ∧ (∀ j < k, pick D j = c → work D k c = ⊤) := by
  induction k with
  | zero => exact ⟨fun _ => rfl, fun j hj => absurd hj (Nat.not_lt_zero _)⟩
  | succ k ih =>
    have e : work D (k + 1) c = if c = pick D k then ⊤ else work D k c := rfl
    refine ⟨fun h => ?_, fun j hj hc => ?_⟩
    · rw [e, if_neg (Ne.symm (h k (Nat.lt_succ_self k)))]
      exact ih.1 fun j hj => h j (Nat.lt_succ_of_lt hj)
    · rw [e]
      by_cases hk : c = pick D k
      · rw [if_pos hk]
      · rw [if_neg hk]
        refine ih.2 j (lt_of_le_of_ne (Nat.le_of_lt_succ hj) ?_) hc
        rintro rfl
        exact hk hc.symm

/-- While fewer than `n - 1` columns are picked, one column other than `i` is unpicked. -/
theorem exists_unpicked (D : Fin n → EReal) (i : Fin n) (k : Nat) (hk : k + 1 < n) :
    ∃ c, c ≠ i ∧ ∀ j < k, pick D j ≠ c := by
  classical
  let S : Finset (Fin n) := insert i ((Finset.range k).image (pick D))
  have hS : S.card < (Finset.univ : Finset (Fin n)).card := by
    have h1 : S.card ≤ ((Finset.range k).image (pick D)).card + 1 := Finset.card_insert_le _ _
    have h2 : ((Finset.range k).image (pick D)).card ≤ k := by
      simpa using (Finset.card_image_le (s := Finset.range k) (f := pick D))
    rw [Finset.card_univ, Fintype.card_fin]
    omega
  obtain ⟨c, -, hc⟩ := Finset.exists_mem_notMem_of_card_lt_card hS
  refine ⟨c, fun h => hc (h ▸ Finset.mem_insert_self _ _), fun j hj h => hc ?_⟩
  exact Finset.mem_insert_of_mem (Finset.mem_image.mpr ⟨j, Finset.mem_range.mpr hj, h⟩)

variable {D : Fin n → EReal} {i : Fin n}

/-- The least entry of an early round is below `⊤`. -/
theorem rowMin_work_lt_top (h : ∀ c, c ≠ i → D c < ⊤) {k : Nat} (hk : k + 1 < n) : rowMin (work D k) < ⊤ := by
  obtain ⟨c, hc, hp⟩ := exists_unpicked D i k hk
  exact lt_of_le_of_lt (rowMin_le _ c) (by rw [(work_eq D k c).1 hp]; exact h c hc)

/-- An early round picks a column no earlier round has picked. -/
theorem pick_ne (h : ∀ c, c ≠ i → D c < ⊤) {k : Nat} (hk : k + 1 < n) (j : Nat) (hj : j < k) : pick D j ≠ pick D k := by
  intro e
  have ht := (work_eq D k (pick D k)).2 j hj e
  have hl := rowMin_work_lt_top h hk
  rw [← argFirst_spec (work D k)] at hl
  exact absurd ht (ne_of_lt hl)

/-- The least entry of an early round is the row's entry at the column it picks. -/
theorem rowMin_work (h : ∀ c, c ≠ i → D c < ⊤) {k : Nat} (hk : k + 1 < n) : rowMin (work D k) = D (pick D k) := by
  rw [← argFirst_spec (work D k)]
  exact (work_eq D k (pick D k)).1 fun j hj => pick_ne h hk j hj

/-- The entry an early round picks is below `⊤`. -/
theorem pick_lt_top (h : ∀ c, c ≠ i → D c < ⊤) {k : Nat} (hk : k + 1 < n) : D (pick D k) < ⊤ :=
  rowMin_work h hk ▸ rowMin_work_lt_top h hk

/-- A column unpicked before round `k` holds no less than what round `k` picks, and if it holds the same it does not come
    before the picked column. -/
theorem pick_le_of_unpicked (h : ∀ c, c ≠ i → D c < ⊤) {k : Nat} (hk : k + 1 < n) (c : Fin n)
    (hc : ∀ j < k, pick D j ≠ c) : D (pick D k) ≤ D c ∧ (D c = D (pick D k) → pick D k ≤ c) := by
  have e := (work_eq D k c).1 hc
  rw [← rowMin_work h hk]
  refine ⟨e ▸ rowMin_le (work D k) c, fun hq => argFirst_le _ c (e.trans hq)⟩

/-! ## The rounds against a stable sort -/

/-- By value, then by position: the order in which a stable ascending sort lists the columns. -/
def before (D : Fin n → EReal) (a b : Fin n) : Bool := decide (D a < D b) || (decide (D a = D b) && decide (a < b))

/-- Comparing by value and then by column is a strict total order. -/
theorem strictTotal_before (D : Fin n → EReal) : StrictTotalBefore (before D) :=
  StrictTotalBefore.of_key_then_position (fun x y : EReal => decide (x < y)) D (fun a => by simp)
    (fun a b c hab hbc => by
      simp only [decide_eq_true_eq] at hab hbc ⊢
      exact lt_trans hab hbc)
    (fun a b => by
      simp only [decide_eq_true_eq]
      exact lt_trichotomy a b)

/-- A comparison by value alone, sorting a list whose positions ascend, gives the order by value, then by position. -/
theorem stableSort_by_value (R : Fin n → Fin n → Bool) (hR : ∀ a b, R a b = decide (D a < D b)) (l : List (Fin n))
    (hl : l.Pairwise (· < ·)) : stableSort R l = stableSort (before D) l := by
  induction l with
  | nil => rfl
  | cons a l ih =>
    rw [List.pairwise_cons] at hl
    show insertBefore R a (stableSort R l) = insertBefore (before D) a (stableSort (before D) l)
    rw [ih hl.2]
    refine insertBefore_congr R (before D) a _ fun b hb => ?_
    have hab : a < b := hl.1 b ((perm_stableSort (before D) l).mem_iff.mp hb)
    rw [hR, before, decide_eq_false (not_lt.mpr hab.le), Bool.and_false, Bool.or_false]

/-- Likewise for the position a stable sort puts at each rank. -/
theorem sortedFrom_by_value (R : Fin n → Fin n → Bool) (hR : ∀ a b, R a b = decide (D a < D b)) (k : Fin n) :
    sortedFrom R k = sortedFrom (before D) k := by
  have e : sortPositions n R = sortPositions n (before D) :=
    stableSort_by_value R hR _ (List.pairwise_lt_finRange n)
  unfold sortedFrom
  simp only [List.get_eq_getElem, Fin.val_cast, e]

/-- **The picked columns are the sort's first.** If every column but `i` holds less than `⊤` and there are more than `K`
    columns, a stable sort that compares by value puts at rank `r < K` the column round `r` picks. -/
theorem sortedFrom_eq_pick (h : ∀ c, c ≠ i → D c < ⊤) {K : Nat} (hK : K < n) (R : Fin n → Fin n → Bool)
    (hR : ∀ a b, R a b = decide (D a < D b)) (r : Fin K) : sortedFrom R (r.castLE hK.le) = pick D r.val := by
  rw [sortedFrom_by_value R hR]
  have hb : ∀ r : Fin K, r.val + 1 < n := fun r => by have := r.isLt; omega
  have hnot : ∀ (r : Fin K) (c : Fin n), (∀ j < r.val, pick D j ≠ c) → before D c (pick D r.val) = false := by
    intro r c hc
    obtain ⟨h1, h2⟩ := pick_le_of_unpicked h (hb r) c hc
    simp only [before, Bool.or_eq_false_iff, decide_eq_false_iff_not, Bool.and_eq_false_iff, not_lt]
    refine ⟨h1, ?_⟩
    by_cases e : D c = D (pick D r.val)
    · exact Or.inr (h2 e)
    · exact Or.inl e
  refine (strictTotal_before D).sortedFrom_eq_of_prefix hK.le (fun r => pick D r.val) ?_ ?_ ?_ r
  · intro a b hab
    by_contra hne
    rcases lt_or_gt_of_ne (fun e : a.val = b.val => hne (Fin.ext e)) with hlt | hlt
    · exact pick_ne h (hb b) _ hlt hab
    · exact pick_ne h (hb a) _ hlt hab.symm
  · intro a b hab
    exact hnot a _ fun j hj => pick_ne h (hb b) j (hj.trans hab)
  · intro a p hp
    exact hnot a p fun j hj => hp ⟨j, hj.trans a.isLt⟩

/-- The first entry picked is the least of those picked. -/
theorem pick_zero_le (h : ∀ c, c ≠ i → D c < ⊤) (hn : 1 < n) (c : Fin n) : D (pick D 0) ≤ D c :=
  (pick_le_of_unpicked h hn c fun _ hj => absurd hj (Nat.not_lt_zero _)).1

end Cert.NearestRounds

end
-- ==== Proof.Round.lean ====
/-
  One selection round of the kernel, read row by row at the ideal values.

  The kernel searches a tile of 512 rows by 2048 columns. A round takes every row's minimum (`vmin`), the least column number
  at which the row equals it (`vidx`), and overwrites that column with `⊤` (`vmask`). Each of the three is shown to be, on
  row `r`, the selection step of `Select.lean` on that row; the rounds then follow by induction (`row_vwork`).
-/
module

public import proofs.«01_k».proof.Proof.Select
public import proofs.«01_k».proof.Proof.Gen.KernelIdeal.Skeleton
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

set_option maxRecDepth 16384

noncomputable section

open Idealize.ShloMosaic Idealize.ShloMosaic.ValueIdx

namespace Cert.KernelIdeal.RefValue

open Cert.KernelIdeal Cert.KernelIdeal.Gen Cert.NearestRounds

/-! ## Constants and small readings -/

/-- The pattern of positive infinity denotes `⊤`. -/
theorem ofBits_inf : Ideal.ofBits .f32 0x7F800000#32 = ⊤ := by simp [Ideal.ofBits, Ideal.ieee]

/-- The pattern of 2048 denotes 2048. -/
theorem ofBits_2048 : Ideal.ofBits .f32 0x45000000#32 = ((2048 : ℝ) : EReal) := by
  simp [Ideal.ofBits, Ideal.ieee, -EReal.coe_mul]; norm_num

/-- A select on an equality of extended reals is a conditional. -/
theorem select_oeq {α : Type} (x y : EReal) (a b : α) :
    Scalar.select (FloatOps.cmpf (F := Ideal) (φ := .f32) .oeq x y) a b = if x = y then a else b := by
  show (if Ideal.cmp .oeq x y = 1#1 then a else b) = _
  unfold Ideal.cmp
  by_cases h : x = y <;> simp [h]

/-- One column broadcast along the rows: every entry of row `r` is the column's entry `r`. -/
theorem broadcastTo_column {α : Type} {a b : Nat} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A per-row value spread over its row. -/
theorem spread_apply {a b : Nat} (v : FVec Ideal ⟨1, ![a]⟩ .f32) (h₁ : (⟨1, ![a]⟩ : Shape).ShapeCasts ⟨2, ![a, 1]⟩)
    (h₂ : (⟨2, ![a, 1]⟩ : Shape).Broadcasts ⟨2, ![a, b]⟩) (r : Fin a) (c : Fin b) :
    broadcastTo ⟨2, ![a, b]⟩ (shapeCast ⟨2, ![a, 1]⟩ v h₁) h₂ (ix2 r c) = v (ix1 r) := by
  rw [broadcastTo_column, shapeCast_a_a1_apply]

/-- The index over row `r` with column `c` inserted. -/
theorem lift_row {a b : Nat} (h : (⟨2, ![a, b]⟩ : Shape).Reduces [1] ⟨1, ![a]⟩) (r : Fin a) (c : Fin b) :
    h.lift (ix1 r) c = ix2 r c := by
  funext d
  match d with
  | ⟨0, _⟩ => rfl
  | ⟨1, _⟩ => rfl

/-- A row minimum is the row's least entry. -/
theorem rowMinimum_apply (x : FVec Ideal S512x2048 .f32) (h : S512x2048.Reduces [1] S512) (hφ hacc) (r : Fin 512) :
    multiReduction .minimumf [1] S512 x 0x7F800000#32 h hφ hacc (ix1 r) = rowMin fun c : Fin 2048 => x (ix2 r c) := by
  rw [multiReduction_minimumf_eq_fold]
  refine (h.fold_filter_drop_single (FloatOps.minimumf (F := Ideal) (φ := .f32)) _ x (ix1 r)).trans ?_
  have e : (x ∘ h.lift (ix1 r)) = fun c : Fin 2048 => x (ix2 r c) := funext fun c => congrArg x (lift_row h r c)
  rw [e, Ideal.ofBits_def, ofBits_inf]
  rfl

/-! ## The round's three functions of a tile -/

/-- The row minima of a tile. -/
def vmin (w : FVec Ideal S512x2048 .f32) : FVec Ideal S512 .f32 :=
  multiReduction .minimumf [1] S512 w 0x7F800000#32 reduces_S512x2048_S512 (.inl rfl) rfl

/-- Per row, the least column number at which the row equals its minimum. -/
def vidx (w : FVec Ideal S512x2048 .f32) : FVec Ideal S512 .f32 :=
  multiReduction .minimumf [1] S512
    (select (cmpf .oeq w (broadcastTo S512x2048 (shapeCast S512x1 (vmin w) shapeCasts_S512_S512x1) broadcasts_S512x1_S512x2048))
      (k0_pay2 (F := Ideal)) (broadcast S512x2048 (Scalar.ofBits .f32 0x45000000#32)))
    0x7F800000#32 reduces_S512x2048_S512 (.inl rfl) rfl

/-- The tile with, in each row, the picked column overwritten by infinity. -/
def vmask (w : FVec Ideal S512x2048 .f32) : FVec Ideal S512x2048 .f32 :=
  select (cmpf .oeq (k0_pay2 (F := Ideal))
      (broadcastTo S512x2048 (shapeCast S512x1 (vidx w) shapeCasts_S512_S512x1) broadcasts_S512x1_S512x2048))
    (broadcast S512x2048 (Scalar.ofBits .f32 0x7F800000#32)) w

/-- The tile at the start of round `k`. -/
def vwork (w : FVec Ideal S512x2048 .f32) : Nat → FVec Ideal S512x2048 .f32
  | 0 => w
  | k + 1 => vmask (vwork w k)

/-- Row `r` of a tile. -/
def row (w : FVec Ideal S512x2048 .f32) (r : Fin 512) : Fin 2048 → EReal := fun c => w (ix2 r c)

/-- A row at a column. -/
theorem row_apply (w : FVec Ideal S512x2048 .f32) (r : Fin 512) (c : Fin 2048) : row w r c = w (ix2 r c) := rfl

/-! ## Read on a row -/

theorem vmin_apply (w : FVec Ideal S512x2048 .f32) (r : Fin 512) : vmin w (ix1 r) = rowMin (row w r) :=
  rowMinimum_apply w _ _ _ r

/-- The column numbers. -/
theorem columns_apply (r : Fin 512) (c : Fin 2048) : k0_pay2 (F := Ideal) (ix2 r c) = ((c.val : ℝ) : EReal) := by
  unfold k0_pay2
  dsimp only
  rw [sitofp_apply, iota_single_apply]
  show ((((BitVec.ofNat 32 c.val).toInt : ℤ) : ℝ) : EReal) = _
  have hc : (BitVec.ofNat 32 c.val).toInt = (c.val : ℤ) := by
    have := c.isLt
    rw [BitVec.toInt_eq_toNat_of_lt (by rw [BitVec.toNat_ofNat]; omega), BitVec.toNat_ofNat]
    omega
  rw [hc, Int.cast_natCast]

/-- The least column number at which a row equals its minimum is the first such column. -/
theorem rowMin_columns (w : Fin 2048 → EReal) :
    rowMin (fun c : Fin 2048 => if w c = rowMin w then ((c.val : ℝ) : EReal) else ((2048 : ℝ) : EReal))
      = (((argFirst w).val : ℝ) : EReal) := by
  refine le_antisymm ?_ ?_
  · refine (rowMin_le _ (argFirst w)).trans ?_
    rw [if_pos (argFirst_spec w)]
  · refine Finset.le_inf fun c _ => ?_
    split
    · next h => exact_mod_cast argFirst_le w c h
    · exact_mod_cast (argFirst w).isLt.le

/-- The column number a round finds on a row is the first column with the row's least entry. -/
theorem vidx_apply (w : FVec Ideal S512x2048 .f32) (r : Fin 512) :
    vidx w (ix1 r) = (((argFirst (row w r)).val : ℝ) : EReal) := by
  refine (rowMinimum_apply _ _ _ _ r).trans ?_
  rw [← rowMin_columns]
  refine congrArg rowMin (funext fun c => ?_)
  rw [select_apply, cmpf_apply, select_oeq, spread_apply, vmin_apply, columns_apply, broadcast_apply]
  show (if row w r c = _ then _ else Ideal.ofBits .f32 0x45000000#32) = _
  rw [ofBits_2048]

/-- Overwriting a column acts on every row as the selection step does. -/
theorem row_vmask (w : FVec Ideal S512x2048 .f32) (r : Fin 512) : row (vmask w) r = mask (row w r) := by
  funext c
  rw [row_apply, mask_apply]
  unfold vmask
  rw [select_apply, cmpf_apply, select_oeq, spread_apply, vidx_apply, columns_apply, broadcast_apply]
  have e : (((c.val : ℝ) : EReal) = (((argFirst (row w r)).val : ℝ) : EReal)) ↔ c = argFirst (row w r) := by
    rw [EReal.coe_eq_coe_iff, Nat.cast_inj, Fin.ext_iff]
  simp only [e]
  show (if _ then Ideal.ofBits .f32 0x7F800000#32 else _) = _
  rw [ofBits_inf]
  rfl

/-- The working tile's row is the row's working row. -/
theorem row_vwork (w : FVec Ideal S512x2048 .f32) (r : Fin 512) (k : Nat) : row (vwork w k) r = work (row w r) k := by
  induction k with
  | zero => rfl
  | succ k ih =>
    show row (vmask (vwork w k)) r = mask (work (row w r) k)
    rw [row_vmask, ih]

/-- The column number round `k` finds in row `r`. -/
theorem vidx_vwork (w : FVec Ideal S512x2048 .f32) (r : Fin 512) (k : Nat) :
    vidx (vwork w k) (ix1 r) = (((pick (row w r) k).val : ℝ) : EReal) := by
  rw [vidx_apply, row_vwork]; rfl

/-- The least entry round `k` finds in row `r`. -/
theorem vmin_vwork (w : FVec Ideal S512x2048 .f32) (r : Fin 512) (k : Nat) :
    vmin (vwork w k) (ix1 r) = rowMin (work (row w r) k) := by
  rw [vmin_apply, row_vwork]

end Cert.KernelIdeal.RefValue

end
-- ==== Proof.Tile.lean ====
/-
  What the kernel's body leaves in its two result buffers, in terms of the sixteen rounds.

  `tileD i x0 x1` is the tile of masked squared distances the body builds from its two input blocks at grid point `i`. The
  body's values are those of the rounds of `Round.lean` on that tile: the index buffer holds the sixteen column numbers
  (`out2_eq`), the weight buffer the softmax of the negated roots of the sixteen minima (`out3_eq`).
-/
module

public import proofs.«01_k».proof.Proof.Round
public import proofs.«01_k».proof.Proof.Gen.KernelIdeal.Frame

@[expose] public section

set_option maxRecDepth 16384

noncomputable section

open Idealize.ShloMosaic Idealize.ShloMosaic.ValueIdx

namespace Cert.KernelIdeal.RefValue

open Cert.KernelIdeal Cert.KernelIdeal.Gen Cert.NearestRounds

/-- A window of rank three read from its origin. -/
theorem origin3 : (![0, 0, 0] : Fin 3 → Nat) = fun _ => 0 := funext fun a => by fin_cases a <;> rfl

/-- The tile of masked squared distances at grid point `i`. -/
def tileD (i : grid0.Coords) (x0 : Vec Ideal S1x512x64 .f32) (x1 : Vec Ideal S1x2048x64 .f32) : FVec Ideal S512x2048 .f32 :=
  k0_pay1 i x0 x1

/-- A per-row value spread over the tile. -/
def spread (v : FVec Ideal S512 .f32) : FVec Ideal S512x2048 .f32 :=
  broadcastTo S512x2048 (shapeCast S512x1 v shapeCasts_S512_S512x1) broadcasts_S512x1_S512x2048

/-- The column numbers where a tile equals its row minimum, 2048 elsewhere. -/
def candidates (w : FVec Ideal S512x2048 .f32) : FVec Ideal S512x2048 .f32 :=
  select (cmpf .oeq w (spread (vmin w))) (k0_pay2 (F := Ideal)) (broadcast S512x2048 (Scalar.ofBits .f32 0x45000000#32))

/-! ## The body's stages are rounds -/

section Stages
variable (w : FVec Ideal S512x2048 .f32)

/-- Masking three times is three rounds. -/
theorem stage_14 : k0_pay14 (k0_pay2 (F := Ideal)) w = vwork w 3 := rfl
/-- The column numbers found after three rounds. -/
theorem stage_17 : k0_pay17 (k0_pay2 (F := Ideal)) w = spread (vidx (vwork w 3)) := rfl
/-- Four rounds, the first column number given. -/
theorem stage_27 : k0_pay27 (k0_pay2 (F := Ideal)) w (spread (vidx w)) = vwork w 4 := rfl
/-- Four rounds and the next candidates, the first column number given. -/
theorem stage_29 : k0_pay29 (k0_pay2 (F := Ideal)) w (spread (vidx w)) = candidates (vwork w 4) := rfl
/-- Four rounds, the first candidates given. -/
theorem stage_40 : k0_pay40 (k0_pay2 (F := Ideal)) w (candidates w) = vwork w 4 := rfl
/-- Four rounds and the next minimum, the first candidates given. -/
theorem stage_42 : k0_pay42 (k0_pay2 (F := Ideal)) w (candidates w) = spread (vmin (vwork w 4)) := rfl

/-- Rounds on from round `a`. -/
theorem vwork_add (a b : Nat) : vwork (vwork w a) b = vwork w (a + b) := by
  induction b with
  | zero => rfl
  | succ b ih => exact congrArg vmask ih

end Stages

variable (i : grid0.Coords) (x0 : Vec Ideal S1x512x64 .f32) (x1 : Vec Ideal S1x2048x64 .f32)

/-- The column numbers. -/
theorem val_61 : k0_pay61 i x0 x1 = k0_pay2 (F := Ideal) := rfl
/-- The tile after one round. -/
theorem val_62 : k0_pay62 i x0 x1 = vwork (tileD i x0 x1) 1 := by
  unfold k0_pay62
  rw [View.ld_unit_zero origin3, View.ld_unit_zero origin3]
  rfl
/-- The tile after four rounds. -/
theorem val_63 : k0_pay63 i x0 x1 = vwork (tileD i x0 x1) 4 := by
  unfold k0_pay63
  rw [val_61, val_62, stage_14, vwork_add]
/-- The column numbers found by the round after the fourth. -/
theorem val_64 : k0_pay64 i x0 x1 = spread (vidx (vwork (tileD i x0 x1) 4)) := by
  unfold k0_pay64
  rw [val_61, val_62, stage_17, vwork_add]
/-- The tile after eight rounds. -/
theorem val_65 : k0_pay65 i x0 x1 = vwork (tileD i x0 x1) 8 := by
  unfold k0_pay65
  rw [val_61, val_63, val_64, stage_27, vwork_add]
/-- The candidates of the round after the eighth. -/
theorem val_66 : k0_pay66 i x0 x1 = candidates (vwork (tileD i x0 x1) 8) := by
  unfold k0_pay66
  rw [val_61, val_63, val_64, stage_29, vwork_add]
/-- The tile after twelve rounds. -/
theorem val_67 : k0_pay67 i x0 x1 = vwork (tileD i x0 x1) 12 := by
  unfold k0_pay67
  rw [val_61, val_65, val_66, stage_40, vwork_add]
/-- The minima of the round after the twelfth. -/
theorem val_68 : k0_pay68 i x0 x1 = spread (vmin (vwork (tileD i x0 x1) 12)) := by
  unfold k0_pay68
  rw [val_61, val_65, val_66, stage_42, vwork_add]

/-! ## The stored tiles -/

/-- Sixteen per-row values side by side. -/
def stack (f : Fin 16 → FVec Ideal S512 .f32) : FVec Ideal S512x16 .f32 :=
  concatenate S512x16 1 (List.ofFn fun k : Fin 16 => (⟨S512x1, shapeCast S512x1 (f k) shapeCasts_S512_S512x1⟩ : (s : Shape) × (s.Idx → EReal)))
    concatenates_S512x1_S512x1_S512x1_S512x1_S512x1_S512x1_S512x1_S512x1_S512x1_S512x1_S512x1_S512x1_S512x1_S512x1_S512x1_S512x1_S512x16_d1

/-- The stored indices of a stack of column numbers. -/
def storedIdx (s : FVec Ideal S512x16 .f32) : IVec S1x512x16 32 :=
  shapeCast S1x512x16 (fptosi 32 s) shapeCasts_S512x16_S1x512x16

/-- The negated roots. -/
def scores (s : FVec Ideal S512x16 .f32) : FVec Ideal S512x16 .f32 :=
  subf (broadcast S512x16 (Scalar.ofBits .f32 0x00000000#32)) (sqrt s)

/-- The exponentials of the scores less the row's first. -/
def exps (s : FVec Ideal S512x16 .f32) : FVec Ideal S512x16 .f32 :=
  exp (subf (scores s) (broadcastTo S512x16
    (extractStridedSlice S512x1 ![0, 0] (scores s) slices_S512x16_o0_0_S512x1) broadcasts_S512x1_S512x16))

/-- The stored weights of a stack of squared distances: each exponential over its row's sum. -/
def storedWeights (s : FVec Ideal S512x16 .f32) : FVec Ideal S1x512x16 .f32 :=
  shapeCast S1x512x16 (divf (exps s) (broadcastTo S512x16
    (shapeCast S512x1 (multiReduction .add [1] S512 (exps s) 0x00000000#32 reduces_S512x16_S512 (.inl rfl) rfl)
      shapeCasts_S512_S512x1) broadcasts_S512x1_S512x16)) shapeCasts_S512x16_S1x512x16

/-- The index buffer after the body: the column numbers of the sixteen rounds. -/
theorem out2_eq : out0_2 i x0 x1 = storedIdx (stack fun k => vidx (vwork (tileD i x0 x1) k.val)) := by
  unfold out0_2
  rw [View.canon_unit_zero origin3, View.ld_unit_zero origin3, View.ld_unit_zero origin3, val_61, val_62, val_63, val_64,
    val_65, val_66, val_67, val_68]
  rfl

/-- The weight buffer after the body: the softmax of the sixteen rounds' minima. -/
theorem out3_eq : out0_3 i x0 x1 = storedWeights (stack fun k => vmin (vwork (tileD i x0 x1) k.val)) := by
  unfold out0_3
  rw [View.canon_unit_zero origin3, View.ld_unit_zero origin3, View.ld_unit_zero origin3, val_61, val_62, val_63, val_64,
    val_65, val_66, val_67, val_68]
  rfl

end Cert.KernelIdeal.RefValue

end
-- ==== Proof.Distance.lean ====
/-
  The mathematics both programs compute, on extended reals.

  `sqDist a b` is the squared distance of two points by the expansion `|a|² + |b|² - 2 a·b`, held above a small positive
  floor. `nearRow X i` is the row of squared distances from point `i` to every point, with `⊤` at point `i` itself.
  `nearIdx` and `nearWeight` are the sixteen nearest points and the softmax of their negated distances; `nearestIdx` and `nearestWeights` are the two
  whole arrays. For finite points
  every entry of the row but its own is below `⊤` (`nearRow_lt_top`); and the square root keeps the order
  (`sqrt_lt_sqrt`), so that ordering by distance and by squared distance is the same.
-/
module

public import proofs.«01_k».proof.Proof.Select
public import Idealize.ShloMosaic.PureOps.Ideal
public import Idealize.ShloMosaic.PureOps.Ideal.Laws
public import Idealize.ShloMosaic.Lib.ValueIdxCore

@[expose] public section

set_option maxRecDepth 16384

noncomputable section

open Idealize.ShloMosaic Idealize.ShloMosaic.ValueIdx

namespace Cert.NearestRounds

/-! ## Definitions -/

/-- The floor under a squared distance (the f32 pattern nearest to 1e-12). -/
def floorSq : EReal := Ideal.ofBits .f32 0x2B8CBCCC#32

/-- The factor two. -/
def two : EReal := Ideal.ofBits .f32 0x40000000#32

/-- The squared distance of two points, by expansion, not below the floor. -/
def sqDist (a b : Fin 64 → EReal) : EReal :=
  max (((∑ e, a e * a e) + ∑ e, b e * b e) - two * ∑ e, a e * b e) floorSq

/-- The squared distances from point `i`, with `⊤` at `i` itself. -/
def nearRow (X : Fin 2048 → Fin 64 → EReal) (i : Fin 2048) : Fin 2048 → EReal :=
  fun c => if c = i then ⊤ else sqDist (X i) (X c)

/-- The softmax of sixteen scores, shifted by the first. -/
def weight (s : Fin 16 → EReal) (k : Fin 16) : EReal :=
  Ideal.div (Ideal.exp (s k - s 0)) (∑ j, Ideal.exp (s j - s 0))

/-- The `k`-th nearest point's number, as a word. -/
def nearIdx (D : Fin 2048 → EReal) (k : Fin 16) : BitVec 32 := BitVec.ofNat 32 (pick D k.val).val

/-- The `k`-th nearest point's score: its distance, negated. -/
def nearScore (D : Fin 2048 → EReal) (k : Fin 16) : EReal := -Ideal.sqrt (D (pick D k.val))

/-- The `k`-th nearest point's weight. -/
def nearWeight (D : Fin 2048 → EReal) (k : Fin 16) : EReal := weight (nearScore D) k

/-- Sixteen clouds of 2048 points with 64 coordinates. -/
abbrev Clouds : Type := (⟨3, ![16, 2048, 64]⟩ : Shape).Idx → EReal

/-- The points of cloud `b`. -/
def cloud (x : Clouds) (b : Fin 16) : Fin 2048 → Fin 64 → EReal := fun c e => x (ix3 b c e)

/-- The whole array of nearest points' numbers: at (b, p, k), the `k`-th nearest point of point `p` in cloud `b`. -/
def nearestIdx (x : Clouds) : (⟨3, ![16, 2048, 16]⟩ : Shape).Idx → BitVec 32 :=
  fun j => nearIdx (nearRow (cloud x (j 0)) (j 1)) (j 2)

/-- The whole array of weights: at (b, p, k), the weight of the `k`-th nearest point of point `p` in cloud `b`. -/
def nearestWeights (x : Clouds) : (⟨3, ![16, 2048, 16]⟩ : Shape).Idx → EReal :=
  fun j => nearWeight (nearRow (cloud x (j 0)) (j 1)) (j 2)

/-! ## Finite points -/

/-- An extended real that is a real number. -/
def IsReal (x : EReal) : Prop := ∃ r : ℝ, x = (r : EReal)

/-- Reals are closed under sums. -/
theorem IsReal.add {x y : EReal} : IsReal x → IsReal y → IsReal (x + y) := by
  rintro ⟨a, rfl⟩ ⟨b, rfl⟩; exact ⟨a + b, (EReal.coe_add a b).symm⟩
/-- Reals are closed under differences. -/
theorem IsReal.sub {x y : EReal} : IsReal x → IsReal y → IsReal (x - y) := by
  rintro ⟨a, rfl⟩ ⟨b, rfl⟩; exact ⟨a - b, (EReal.coe_sub a b).symm⟩
/-- Reals are closed under products. -/
theorem IsReal.mul {x y : EReal} : IsReal x → IsReal y → IsReal (x * y) := by
  rintro ⟨a, rfl⟩ ⟨b, rfl⟩; exact ⟨a * b, (EReal.coe_mul a b).symm⟩
/-- A finite sum of reals is real. -/
theorem IsReal.sum {n : Nat} (f : Fin n → EReal) (h : ∀ i, IsReal (f i)) : IsReal (∑ i, f i) :=
  Finset.sum_induction f IsReal (fun _ _ => IsReal.add) ⟨0, rfl⟩ fun i _ => h i
/-- A real is below `⊤`. -/
theorem IsReal.lt_top {x : EReal} : IsReal x → x < ⊤ := by
  rintro ⟨a, rfl⟩; exact EReal.coe_lt_top a

/-- The factor two is real. -/
theorem isReal_two : IsReal two := ⟨2, by simp [two, Ideal.ofBits, Ideal.ieee, -EReal.coe_mul]; norm_num⟩

/-- The floor is a positive real. -/
theorem floorSq_real : ∃ r : ℝ, 0 < r ∧ floorSq = (r : EReal) := by
  refine ⟨(9223372 : ℝ) * (2 : ℝ) ^ (-63 : Int), by positivity, ?_⟩
  simp [floorSq, Ideal.ofBits, Ideal.ieee, -EReal.coe_mul]

/-- The floor is positive. -/
theorem floorSq_pos : 0 < floorSq := by
  obtain ⟨r, hr, e⟩ := floorSq_real
  rw [e]; exact_mod_cast hr

/-- The floor is below `⊤`. -/
theorem floorSq_lt_top : floorSq < ⊤ := by
  obtain ⟨r, -, e⟩ := floorSq_real
  rw [e]; exact EReal.coe_lt_top r

/-- The squared distance of two finite points is below `⊤`. -/
theorem sqDist_lt_top {a b : Fin 64 → EReal} (ha : ∀ e, IsReal (a e)) (hb : ∀ e, IsReal (b e)) : sqDist a b < ⊤ :=
  max_lt (((IsReal.sum _ fun e => (ha e).mul (ha e)).add (IsReal.sum _ fun e => (hb e).mul (hb e))).sub
    (isReal_two.mul (IsReal.sum _ fun e => (ha e).mul (hb e)))).lt_top floorSq_lt_top

/-- For finite points every entry of the row but point `i`'s own is below `⊤`. -/
theorem nearRow_lt_top {X : Fin 2048 → Fin 64 → EReal} (hX : ∀ c e, IsReal (X c e)) (i c : Fin 2048) (hc : c ≠ i) :
    nearRow X i c < ⊤ := by
  unfold nearRow
  rw [if_neg hc]
  exact sqDist_lt_top (hX i) (hX c)

/-- No entry of the row is negative. -/
theorem nearRow_nonneg (X : Fin 2048 → Fin 64 → EReal) (i c : Fin 2048) : 0 ≤ nearRow X i c := by
  unfold nearRow
  split
  · exact le_top
  · exact floorSq_pos.le.trans (le_max_right _ _)

/-! ## The square root keeps the order -/

/-- On nonnegative extended reals the square root is strictly increasing. -/
theorem sqrt_lt_sqrt {x y : EReal} (hx : 0 ≤ x) (hy : 0 ≤ y) : Ideal.sqrt x < Ideal.sqrt y ↔ x < y := by
  induction x with
  | bot => exact absurd hx (by simp)
  | top => simp [not_top_lt]
  | coe a =>
    have ha : 0 ≤ a := by exact_mod_cast hx
    induction y with
    | bot => exact absurd hy (by simp)
    | top => simp [not_lt.mpr ha, EReal.coe_lt_top]
    | coe b =>
      have hb : 0 ≤ b := by exact_mod_cast hy
      rw [Ideal.sqrt_coe, Ideal.sqrt_coe, if_neg (not_lt.mpr ha), if_neg (not_lt.mpr hb), EReal.coe_lt_coe_iff,
        EReal.coe_lt_coe_iff, Real.sqrt_lt_sqrt_iff ha]

/-- The first score is the largest. -/
theorem nearScore_le_first {X : Fin 2048 → Fin 64 → EReal} (hX : ∀ c e, IsReal (X c e)) (i : Fin 2048) (k : Fin 16) :
    nearScore (nearRow X i) k ≤ nearScore (nearRow X i) 0 := by
  unfold nearScore
  rw [EReal.neg_le_neg_iff]
  refine le_of_not_gt fun h => absurd ((sqrt_lt_sqrt (nearRow_nonneg X i _) (nearRow_nonneg X i _)).mp h) (not_lt.mpr ?_)
  exact pick_zero_le (D := nearRow X i) (i := i) (nearRow_lt_top hX i) (by norm_num) _

end Cert.NearestRounds

end
-- ==== Proof.TileRead.lean ====
/-
  The kernel's tile and its two stored blocks, read at an index.

  Row `r` of the tile at grid point `i` is `nearRow` of the points in the second block at point number `(i 1) · 512 + r`,
  when the first block holds the points from number `(i 1) · 512` on (`row_tileD`). A stored index is the word of the
  selected column number (`storedIdx_apply`); a stored weight is `weight` of the row's sixteen negated roots
  (`storedWeights_apply`). Together: what the body stores is `nearIdx` and `nearWeight` of that row (`out2_apply`,
  `out3_apply`).
-/
module

public import proofs.«01_k».proof.Proof.Tile
public import proofs.«01_k».proof.Proof.Distance
public import Idealize.ShloMosaic.Lib.MatmulPlain

@[expose] public section

set_option maxRecDepth 16384

noncomputable section

open Idealize.ShloMosaic Idealize.ShloMosaic.ValueIdx

namespace Cert.KernelIdeal.RefValue

open Cert.KernelIdeal Cert.KernelIdeal.Gen Cert.NearestRounds

/-! ## The tile -/

/-- A row sum of a matrix. -/
theorem rowSum_apply {a b : Nat} (x : FVec Ideal ⟨2, ![a, b]⟩ .f32) (h : (⟨2, ![a, b]⟩ : Shape).Reduces [1] ⟨1, ![a]⟩) (hφ hacc)
    (r : Fin a) : multiReduction .add [1] ⟨1, ![a]⟩ x 0x00000000#32 h hφ hacc (ix1 r) = ∑ e : Fin b, x (ix2 r e) := by
  refine (Ideal.multiReduction_add_single x _ h hφ hacc (ix1 r)).trans ?_
  exact Finset.sum_congr rfl fun e _ => congrArg x (lift_row h r e)

/-- The tile's matrix product at an index. -/
theorem product_apply (x : FVec Ideal S512x64 .f32) (y : FVec Ideal S2048x64 .f32) (r : Fin 512) (c : Fin 2048) :
    matmul dot_S512x64_S64x2048_S512x2048_1_0_0_1_n_n none x
        (transpose S64x2048 [1, 0] y transposes_S2048x64_p1_0_S64x2048) (constant S512x2048 .f32 0x00000000#32) (ix2 r c)
      = ∑ e : Fin 64, x (ix2 r e) * y (ix2 c e) := by
  have h := Ideal.matmul_plain_apply (M := 512) (K := 64) (N := 2048) none x
    (transpose S64x2048 [1, 0] y transposes_S2048x64_p1_0_S64x2048) (constant S512x2048 .f32 0x00000000#32) r c
  refine Eq.trans ?_ (h.trans ?_)
  · rfl
  · rw [constant_apply]
    refine (congrArg (· + _) Ideal.ofBits_zero_f32).trans ((zero_add _).trans ?_)
    exact Finset.sum_congr rfl fun e _ => congrArg (x (ix2 r e) * ·) (transpose_ix2_apply y _ e c)

/-- The row's own point number, as the kernel computes it, is the column number exactly on the diagonal. -/
theorem diagonal_word (a r c : Nat) (ha : a < 4) (hr : r < 512) (hc : c < 2048) :
    (IntOp.cmpi .eq (IntOp.addi (IntOp.muli (BitVec.ofNat 32 a) 512#32) (BitVec.ofNat 32 r)) (BitVec.ofNat 32 c) : BitVec 1)
      = BitVec.ofBool (decide (c = a * 512 + r)) := by
  have e : IntOp.addi (IntOp.muli (BitVec.ofNat 32 a) 512#32) (BitVec.ofNat 32 r) = BitVec.ofNat 32 (a * 512 + r) := by
    show BitVec.ofNat 32 a * 512#32 + BitVec.ofNat 32 r = _
    rw [BitVec.ofNat_add, BitVec.ofNat_mul]
  rw [e]
  show BitVec.ofBool (BitVec.ofNat 32 (a * 512 + r) == BitVec.ofNat 32 c) = _
  refine congrArg BitVec.ofBool ?_
  rw [Bool.eq_iff_iff, beq_iff_eq, decide_eq_true_iff]
  constructor
  · intro h
    have := congrArg BitVec.toNat h
    rw [BitVec.toNat_ofNat, BitVec.toNat_ofNat] at this
    omega
  · rintro rfl; rfl

/-- A select on a decided word is a conditional. -/
theorem select_ofBool {α : Type} (p : Prop) [Decidable p] (a b : α) :
    Scalar.select (BitVec.ofBool (decide p)) a b = if p then a else b := by
  by_cases h : p <;> simp [Scalar.select, h]

/-- The number of the point at row `r` of the tile at grid point `i`. -/
def pointOf (i : grid0.Coords) (r : Fin 512) : Fin 2048 := ⟨(i 1).val * 512 + r.val, by
  have h : (i 1).val < 4 := (i 1).isLt
  have := r.isLt
  omega⟩

/-- The points a block of them holds. -/
def points (x1 : Vec Ideal S1x2048x64 .f32) : Fin 2048 → Fin 64 → EReal := fun c e => x1 (ix3 (0 : Fin 1) c e)

/-- The tile's mask at an index: set exactly at the row's own point. -/
theorem diagonal_apply (i : grid0.Coords) (r : Fin 512) (c : Fin 2048) :
    cmpi .eq (addi (broadcast S512x2048 (Scalar.muli (BitVec.ofNat 32 (i 1).val) 512#32)) (iota .tc S512x2048 32 [0] iota_S512x2048_d0_w32))
        (iota .tc S512x2048 32 [1] iota_S512x2048_d1_w32) (ix2 r c) = BitVec.ofBool (decide (c = pointOf i r)) := by
  show IntOp.cmpi .eq (IntOp.addi (IntOp.muli (BitVec.ofNat 32 (i 1).val) 512#32)
    (iota .tc S512x2048 32 [0] iota_S512x2048_d0_w32 (ix2 r c))) (iota .tc S512x2048 32 [1] iota_S512x2048_d1_w32 (ix2 r c)) = _
  rw [iota_single_apply, iota_single_apply]
  refine (diagonal_word (i 1).val r.val c.val (i 1).isLt r.isLt c.isLt).trans ?_
  refine congrArg BitVec.ofBool (decide_eq_decide.mpr ⟨fun h => Fin.ext h, fun h => congrArg Fin.val h⟩)

/-- The tile at an index. -/
theorem tileD_apply (i : grid0.Coords) (x0 : Vec Ideal S1x512x64 .f32) (x1 : Vec Ideal S1x2048x64 .f32) (r : Fin 512) (c : Fin 2048) :
    tileD i x0 x1 (ix2 r c)
      = if c = pointOf i r then ⊤ else sqDist (fun e => x0 (ix3 (0 : Fin 1) r e)) (points x1 c) := by
  unfold tileD k0_pay1
  dsimp only
  rw [select_apply, diagonal_apply, select_ofBool, maximumf_apply, subf_apply, addf_apply,
    mulf_apply, product_apply, broadcastTo_1b_ab_apply, shapeCast_a_1a_apply, spread_apply]
  have hx : ∀ e : Fin 64, shapeCast S512x64 x0 shapeCasts_S1x512x64_S512x64 (ix2 r e) = x0 (ix3 (0 : Fin 1) r e) :=
    fun e => shapeCast_1ab_ab_apply x0 _ r e
  have hy : ∀ e : Fin 64, shapeCast S2048x64 x1 shapeCasts_S1x2048x64_S2048x64 (ix2 c e) = x1 (ix3 (0 : Fin 1) c e) :=
    fun e => shapeCast_1ab_ab_apply x1 _ c e
  have hs₀ := rowSum_apply (mulf (shapeCast S512x64 x0 shapeCasts_S1x512x64_S512x64) (shapeCast S512x64 x0 shapeCasts_S1x512x64_S512x64))
    reduces_S512x64_S512 (.inl rfl) rfl r
  have hs₁ := rowSum_apply (mulf (shapeCast S2048x64 x1 shapeCasts_S1x2048x64_S2048x64) (shapeCast S2048x64 x1 shapeCasts_S1x2048x64_S2048x64))
    reduces_S2048x64_S2048 (.inl rfl) rfl c
  rw [hs₀, hs₁]
  simp only [mulf_apply, hx, hy]
  refine if_congr Iff.rfl ?_ rfl
  exact ofBits_inf

/-- Row `r` of the tile: the squared distances from its point, when the first block's rows are the second's. -/
theorem row_tileD (i : grid0.Coords) (x0 : Vec Ideal S1x512x64 .f32) (x1 : Vec Ideal S1x2048x64 .f32) (r : Fin 512)
    (h : ∀ e, x0 (ix3 (0 : Fin 1) r e) = points x1 (pointOf i r) e) :
    row (tileD i x0 x1) r = nearRow (points x1) (pointOf i r) := by
  funext c
  rw [row_apply, tileD_apply, funext h]
  rfl

/-! ## The stored blocks -/

/-- A stack at an index is its member there. -/
theorem stack_apply (f : Fin 16 → FVec Ideal S512 .f32) (r : Fin 512) (k : Fin 16) : stack f (ix2 r k) = f k (ix1 r) := by
  unfold stack
  refine (concatenate_ofFn_unit_apply (t := S512x16) (s₁ := S512x1) 1 (fun k => shapeCast S512x1 (f k) shapeCasts_S512_S512x1) _ rfl rfl
    (ix2 r k) k rfl (ix2 r (0 : Fin 1)) fun b hb => ?_).trans (shapeCast_a_a1_apply (f k) _ r 0)
  match b with
  | ⟨0, _⟩ => rfl
  | ⟨1, _⟩ => exact absurd rfl hb

/-- A column number converts to its own word. -/
theorem fptosi_natCast (n : Nat) (h : n < 2048) : Ideal.fptosi 32 ((n : ℝ) : EReal) = BitVec.ofNat 32 n := by
  unfold Ideal.fptosi
  rw [Ideal.toIntClamped_coe, if_pos (Nat.cast_nonneg n), Int.floor_natCast]
  rw [min_eq_right (by norm_num; omega), max_eq_right (by norm_num), BitVec.ofInt_natCast]

/-- A stored index: the word of the column number the stack holds there. -/
theorem storedIdx_apply (f : Fin 16 → FVec Ideal S512 .f32) (r : Fin 512) (k : Fin 16) (n : Fin 2048)
    (h : f k (ix1 r) = ((n.val : ℝ) : EReal)) : storedIdx (stack f) (ix3 (0 : Fin 1) r k) = BitVec.ofNat 32 n.val := by
  unfold storedIdx
  refine (shapeCast_ab_1ab_apply _ _ 0 r k).trans ?_
  show Ideal.fptosi 32 (stack f (ix2 r k)) = _
  rw [stack_apply, h, fptosi_natCast _ n.isLt]

/-- A score: the negated root. -/
theorem scores_apply (s : FVec Ideal S512x16 .f32) (r : Fin 512) (k : Fin 16) : scores s (ix2 r k) = -Ideal.sqrt (s (ix2 r k)) := by
  unfold scores
  rw [subf_apply]
  refine Eq.trans ?_ (zero_sub _)
  exact congrArg (· - _) Ideal.ofBits_zero_f32

/-- An exponential: of the score less the row's first score. -/
theorem exps_apply (s : FVec Ideal S512x16 .f32) (r : Fin 512) (k : Fin 16) :
    exps s (ix2 r k) = Ideal.exp (scores s (ix2 r k) - scores s (ix2 r (0 : Fin 16))) := by
  unfold exps
  show Ideal.exp (subf (F := Ideal) _ _ (ix2 r k)) = _
  rw [subf_apply, broadcastTo_column]
  refine congrArg (fun z => Ideal.exp (scores s (ix2 r k) - z)) ?_
  refine extractStridedSlice_apply _ _ _ _ (ix2 r (0 : Fin 16)) fun a => ?_
  match a with
  | ⟨0, _⟩ => exact (Nat.zero_add _).symm
  | ⟨1, _⟩ => rfl

/-- A stored weight: the softmax of the row's negated roots. -/
theorem storedWeights_apply (f : Fin 16 → FVec Ideal S512 .f32) (r : Fin 512) (k : Fin 16) :
    storedWeights (stack f) (ix3 (0 : Fin 1) r k) = weight (fun j => -Ideal.sqrt (f j (ix1 r))) k := by
  unfold storedWeights
  refine (shapeCast_ab_1ab_apply _ _ 0 r k).trans ?_
  rw [divf_apply, spread_apply]
  refine congrArg₂ Ideal.div ?_ ?_
  · rw [exps_apply, scores_apply, scores_apply, stack_apply, stack_apply]
  · refine (rowSum_apply _ _ _ _ r).trans (Finset.sum_congr rfl fun j _ => ?_)
    rw [exps_apply, scores_apply, scores_apply, stack_apply, stack_apply]

/-! ## What the body stores -/

section Out
variable (i : grid0.Coords) (x0 : Vec Ideal S1x512x64 .f32) (x1 : Vec Ideal S1x2048x64 .f32) (r : Fin 512) (k : Fin 16)
  (h : ∀ e, x0 (ix3 (0 : Fin 1) r e) = points x1 (pointOf i r) e)
include h

/-- The stored index at row `r`, rank `k`. -/
theorem out2_apply : out0_2 i x0 x1 (ix3 (0 : Fin 1) r k) = nearIdx (nearRow (points x1) (pointOf i r)) k := by
  have hs := storedIdx_apply (fun k => vidx (vwork (tileD i x0 x1) k.val)) r k (pick (row (tileD i x0 x1) r) k.val) (vidx_vwork _ r k.val)
  rw [out2_eq, hs, row_tileD i x0 x1 r h, nearIdx]

/-- The stored weight at row `r`, rank `k`, for finite points. -/
theorem out3_apply (hX : ∀ c e, IsReal (points x1 c e)) :
    out0_3 i x0 x1 (ix3 (0 : Fin 1) r k) = nearWeight (nearRow (points x1) (pointOf i r)) k := by
  rw [out3_eq, storedWeights_apply]
  unfold nearWeight
  refine congrArg (fun s => weight s k) (funext fun j => ?_)
  have hj : j.val + 1 < 2048 := by have := j.isLt; omega
  have hm := rowMin_work (D := nearRow (points x1) (pointOf i r)) (i := pointOf i r) (nearRow_lt_top hX (pointOf i r)) hj
  rw [vmin_vwork, row_tileD i x0 x1 r h, hm, nearScore]

end Out

end Cert.KernelIdeal.RefValue

end
-- ==== Proof.Arrays.lean ====
/-
  The kernel's two result arrays after the run.

  Grid point `t` = (b, tile) stages rows `tile · 512 …` of cloud `b` and the whole of cloud `b`, and writes back rows
  `tile · 512 …` of the results for cloud `b`. Every block it writes back is that block of one whole-array function of the
  argument, `nearestIdx` or `nearestWeights`; the blocks tile the arrays, so the arrays end holding those functions
  (`indices_eq`, `weights_eq`).
-/
module

public import proofs.«01_k».proof.Proof.TileRead
public import proofs.«01_k».proof.Proof.Gen.KernelIdeal.Value
public import Idealize.ShloMosaic.Lib.Pipeline.ValueKit

@[expose] public section

set_option maxRecDepth 16384

noncomputable section

open Idealize.ShloMosaic hiding ix3 eq_ix3
open Idealize.ShloMosaic.ValueIdx Idealize.ShloMosaic.TcCoe Idealize.SL.Sem
open Idealize.ShloMosaic.Pipeline (Dat)

namespace Cert.KernelIdeal.RefValue

open Cert.KernelIdeal Cert.KernelIdeal.Gen Cert.NearestRounds

variable (m : (ℓ : Loc nD τ sig) → Buf (Elt Ideal) ℓ) (ρ : Dev nD → PrngReg)

/-- The argument array of device `c`. -/
abbrev arg (c : Dev nD) : Clouds := m ((c : Thread nD τ).loc main_arg0)

/-! ## Where the blocks sit -/

/-- The first input window moves with both grid coordinates: block (b, tile, 0). -/
theorem index0 : ∀ t : Fin grid0.N, win0_0.index t = ![(grid0.coords t 0).val, (grid0.coords t 1).val, 0] := by decide +kernel
/-- The second input window moves with the first: block (b, 0, 0). -/
theorem index1 : ∀ t : Fin grid0.N, win0_1.index t = ![(grid0.coords t 0).val, 0, 0] := by decide +kernel
/-- The first output window: block (b, tile, 0). -/
theorem index2 : ∀ t : Fin grid0.N, win0_2.index t = ![(grid0.coords t 0).val, (grid0.coords t 1).val, 0] := by decide +kernel
/-- The second output window: block (b, tile, 0). -/
theorem index3 : ∀ t : Fin grid0.N, win0_3.index t = ![(grid0.coords t 0).val, (grid0.coords t 1).val, 0] := by decide +kernel

/-- The cloud grid point `t` works on. -/
def cloudOf (t : Fin cfg0.N) : Fin 16 := grid0.coords t 0

/-- The first staged block: row `r` is the point `pointOf` names, of that cloud. -/
theorem iblk0_apply (c : Dev nD) (t : Fin cfg0.N) (r : Fin 512) (e : Fin 64) :
    iblk m c 0 t (ix3 (0 : Fin 1) r e) = cloud (arg m c) (cloudOf t) (pointOf (grid0.coords t) r) e := by
  unfold cloud cloudOf pointOf
  blk_ext [iblk, V, index0 t] <;> rfl

/-- The second staged block: the points of that cloud. -/
theorem iblk1_points (c : Dev nD) (t : Fin cfg0.N) : points (iblk m c 1 t) = cloud (arg m c) (cloudOf t) := by
  funext p e
  unfold points cloud cloudOf
  blk_ext [iblk, V, index1 t] <;> rfl

/-- So the first block's rows are rows of the second. -/
theorem rows_agree (c : Dev nD) (t : Fin cfg0.N) (r : Fin 512) (e : Fin 64) :
    iblk m c 0 t (ix3 (0 : Fin 1) r e) = points (iblk m c 1 t) (pointOf (grid0.coords t) r) e := by
  rw [iblk0_apply, iblk1_points]

/-! ## The arrays -/

/-- Where row `r`, rank `k` of grid point `t`'s written block sits in the first result array. -/
theorem place2 (t : Fin cfg0.N) (r : Fin 512) (k : Fin 16) :
    (win0_2.blk t).view.emb (ix3 (0 : Fin 1) r k) = ix3 (cloudOf t) (pointOf (grid0.coords t) r) k := by
  unfold cloudOf pointOf
  blk_ext [index2 t] <;> rfl

/-- The same in the second. -/
theorem place3 (t : Fin cfg0.N) (r : Fin 512) (k : Fin 16) :
    (win0_3.blk t).view.emb (ix3 (0 : Fin 1) r k) = ix3 (cloudOf t) (pointOf (grid0.coords t) r) k := by
  unfold cloudOf pointOf
  blk_ext [index3 t] <;> rfl

/-- An index of a written block by its row and rank. -/
theorem block_index (y : S1x512x16.Idx) : ∃ (r : Fin 512) (k : Fin 16), y = ix3 (0 : Fin 1) r k := by
  refine ⟨y 1, y 2, (eq_ix3 y).trans ?_⟩
  have h : (y 0 : Fin 1) = (0 : Fin 1) := Fin.ext (Nat.lt_one_iff.mp (show (y 0).val < 1 from (y 0).isLt))
  exact congrArg (fun u : Fin 1 => (ix3 u (y 1) (y 2) : S1x512x16.Idx)) h

/-- The first result array ends holding the nearest points' numbers. -/
theorem indices_eq (c : Dev nD) : (dats m 0 c).arrAt 2 cfg0.N = nearestIdx (arg m c) := by
  refine (dats m 0 c).arrAt_eq_of_covers 2 _ (by decide +kernel) fun t hf y => ?_
  blk_simp
  rw [after0_2]
  obtain ⟨r, k, rfl⟩ := block_index y
  refine (out2_apply _ _ _ r k (rows_agree m c t r)).trans ?_
  rw [iblk1_points, place2]
  rfl

/-- The second result array ends holding the weights, for finite points. -/
theorem weights_eq (c : Dev nD) (hX : ∀ i, IsReal (arg m c i)) : (dats m 0 c).arrAt 3 cfg0.N = nearestWeights (arg m c) := by
  refine (dats m 0 c).arrAt_eq_of_covers 3 _ (by decide +kernel) fun t hf y => ?_
  blk_simp
  rw [after0_3]
  obtain ⟨r, k, rfl⟩ := block_index y
  refine (out3_apply _ _ _ r k (rows_agree m c t r) (fun p e => ?_)).trans ?_
  · rw [iblk1_points]; exact hX _
  rw [iblk1_points, place3]
  rfl

/-- The kernel's run, read: the two result arrays as functions of the argument, the argument unchanged. -/
theorem run (hX : ∀ c i, IsReal (arg m c i)) :
    θ_run defs (onTc (τ := τ) (main (F := Ideal))) ⟨m, fun _ => 0, ρ⟩ fun r => ∀ c : Dev nD,
      r.2.mem ((c : Thread nD τ).loc main_v0_0) = nearestIdx (arg m c)
      ∧ r.2.mem ((c : Thread nD τ).loc main_v0_1) = nearestWeights (arg m c)
      ∧ r.2.mem ((c : Thread nD τ).loc main_arg0) = m ((c : Thread nD τ).loc main_arg0) :=
  (θ_run defs _ _).mono (fun _ h c => ⟨(h c).1.trans (indices_eq m c), (h c).2.1.trans (weights_eq m c (hX c)), (h c).2.2⟩)
    (Value.run_blocks m ρ)

end Cert.KernelIdeal.RefValue

end
-- ==== Proof.Reference.lean ====
/-
  The reference's two results, as functions of its argument.

  The reference forms every row of distances, negates it, takes the sixteen greatest by a stable sort, and applies a softmax
  along the sixteen. Its sort compares negated square roots; these compare as the squared distances do, the other way
  round, so the sort's first sixteen are the points the selection rounds pick (`topK_picks`). Its softmax subtracts the
  greatest score, which is the first. Hence its results are `nearestIdx` and `nearestWeights` of the argument
  (`indices_eq`, `weights_eq`), for finite points.
-/
module

public import proofs.«01_k».proof.Proof.Distance
public import proofs.«01_k».proof.Proof.Gen.ReferenceIdeal.Read
public import Idealize.ShloMosaic.PureOps.Reduce
public import Idealize.ShloMosaic.Lib.IdealHost

@[expose] public section

set_option maxRecDepth 16384

noncomputable section

open Idealize.ShloMosaic Idealize.ShloMosaic.ValueIdx Idealize.ShloMosaic.TcCoe Idealize.SL.Sem

namespace Cert.ReferenceIdeal.RefValue

open Cert.ReferenceIdeal Cert.ReferenceIdeal.Gen Cert.ReferenceIdeal.Read Cert.NearestRounds

variable (x : Clouds)

/-! ## The distances -/

/-- A point's squared norm. -/
theorem norm_apply (b : Fin 16) (p : Fin 2048) :
    val_main_v1 (F := Ideal) x (ix2 b p) = ∑ e, cloud x b p e * cloud x b p e := by
  rw [val_main_v1_apply]
  refine (congrArg (· + _) Ideal.ofBits_zero_f32).trans ((zero_add _).trans ?_)
  refine Finset.sum_congr rfl fun e _ => ?_
  have h : idx_main_v1 (ix2 b p) e = ix3 b p e := funext fun a => match a with
    | ⟨0, _⟩ => rfl | ⟨1, _⟩ => rfl | ⟨2, _⟩ => rfl
  rw [val_main_v0_apply, h]; rfl

/-- The inner product of two points of a cloud. -/
theorem inner_apply (b : Fin 16) (p c : Fin 2048) :
    val_main_v2 (F := Ideal) x (ix3 b p c) = ∑ e, cloud x b p e * cloud x b c e := by
  rw [val_main_v2_apply]
  refine Finset.sum_congr rfl fun e _ => ?_
  have hl : lidx_main_v2 (ix3 b p c) e = ix3 b p e := funext fun a => match a with
    | ⟨0, _⟩ => rfl | ⟨1, _⟩ => rfl | ⟨2, _⟩ => rfl
  have hr : ridx_main_v2 (ix3 b p c) e = ix3 b c e := funext fun a => match a with
    | ⟨0, _⟩ => rfl | ⟨1, _⟩ => rfl | ⟨2, _⟩ => rfl
  rw [hl, hr]; rfl

/-- The squared distance, floored. -/
theorem sqDist_apply (b : Fin 16) (p c : Fin 2048) :
    val_main_v12 (F := Ideal) x (ix3 b p c) = sqDist (cloud x b p) (cloud x b c) := by
  have h₅ : idx_main_v3 (idx_main_v5 (ix3 b p c)) = ix2 b p := funext fun a => match a with
    | ⟨0, _⟩ => rfl | ⟨1, _⟩ => rfl
  have h₆ : idx_main_v4 (idx_main_v6 (ix3 b p c)) = ix2 b c := funext fun a => match a with
    | ⟨0, _⟩ => rfl | ⟨1, _⟩ => rfl
  rw [val_main_v12_apply, val_main_v10_apply, val_main_v7_apply, val_main_v9_apply, val_main_v5_apply, val_main_v3_apply, h₅,
    val_main_v6_apply, val_main_v4_apply, h₆, norm_apply, norm_apply, inner_apply, val_main_v8_apply, val_main_v11_apply]
  rfl

/-- The mask: set exactly on the diagonal. -/
theorem mask_apply (b : Fin 16) (p c : Fin 2048) :
    val_main_call0_v1 (F := Ideal) (ix3 b p c) = BitVec.ofBool (decide (c = p)) := by
  rw [val_main_call0_v1_apply, val_main_v19_apply, val_main_v18_apply, val_main_v17_apply, val_main_v16_apply]
  show BitVec.ofBool (BitVec.ofNat 32 p.val + 0#32 == BitVec.ofNat 32 c.val) = _
  refine congrArg BitVec.ofBool ?_
  rw [BitVec.add_zero, Bool.eq_iff_iff, beq_iff_eq, decide_eq_true_iff]
  have hp := p.isLt
  have hc := c.isLt
  constructor
  · intro h
    have := congrArg BitVec.toNat h
    rw [BitVec.toNat_ofNat, BitVec.toNat_ofNat] at this
    exact Fin.ext (by omega)
  · rintro rfl; rfl

/-- What the reference sorts: the negated roots of the row of squared distances. -/
theorem keys_apply (b : Fin 16) (p c : Fin 2048) :
    val_main_v21 (F := Ideal) x (ix3 b p c) = -Ideal.sqrt (nearRow (cloud x b) p c) := by
  rw [val_main_v21_apply, val_main_v20_apply, mask_apply, val_main_call0_v2_apply, val_main_v13_apply, sqDist_apply]
  unfold nearRow
  have inf : Ideal.ofBits .f32 0x7F800000#32 = ⊤ := by simp [Ideal.ofBits, Ideal.ieee]
  by_cases h : c = p
  · rw [if_pos h]
    simp only [h, decide_true]
    exact congrArg (fun z : EReal => -z) inf
  · rw [if_neg h]
    simp only [h, decide_false]
    rfl

/-! ## The sixteen greatest -/

/-- The sort's order on two negated roots is the order of the radicands. -/
theorem order_apply {u v : EReal} (hu : 0 ≤ u) (hv : 0 ≤ v) :
    (FloatOps.cmpfTotal (F := Ideal) (φ := .f32) .gt (-Ideal.sqrt u) (-Ideal.sqrt v) == 1#1) = decide (u < v) := by
  show (BitVec.ofBool (decide (-Ideal.sqrt v < -Ideal.sqrt u)) == 1#1) = _
  have e : -Ideal.sqrt v < -Ideal.sqrt u ↔ u < v := EReal.neg_lt_neg_iff.trans (sqrt_lt_sqrt hu hv)
  by_cases h : u < v <;> simp [e, h]

/-- An index of the sorted array moved along the sorted axis. -/
theorem along_last (b : Fin 16) (p c : Fin 2048) (hd : 2 < S16x2048x2048.rank) (k : Fin (S16x2048x2048.size ⟨2, hd⟩)) :
    (ix3 b p c : S16x2048x2048.Idx).along ⟨2, hd⟩ k = ix3 b p (k : Fin 2048) := by
  funext a
  match a with
  | ⟨0, _⟩ => rfl
  | ⟨1, _⟩ => rfl
  | ⟨2, _⟩ => rfl

/-- **The sixteen greatest are the points the rounds pick**: the number of the `k`-th, and its key. -/
theorem topK_picks (K : (⟨3, ![16, 2048, 2048]⟩ : Shape).Idx → EReal) (b : Fin 16) (p : Fin 2048) (D : Fin 2048 → EReal)
    (hK : ∀ c, K (ix3 b p c) = -Ideal.sqrt (D c)) (hD : ∀ c, 0 ≤ D c) (hi : ∀ c, c ≠ p → D c < ⊤) (k : Fin 16) :
    (Host.topK S16x2048x16 2 (FloatOps.cmpfTotal (F := Ideal) (φ := .f32) .gt) K sliceFits_S16x2048x2048_S16x2048x16).1 (ix3 b p k)
        = nearScore D k
    ∧ (Host.topK S16x2048x16 2 (FloatOps.cmpfTotal (F := Ideal) (φ := .f32) .gt) K sliceFits_S16x2048x2048_S16x2048x16).2 (ix3 b p k)
        = nearIdx D k := by
  have hs := sortedFrom_eq_pick (D := D) (i := p) hi (K := 16) (by norm_num)
    (fun a c => FloatOps.cmpfTotal (F := Ideal) (φ := .f32) .gt (K (ix3 b p a)) (K (ix3 b p c)) == 1#1)
    (fun a c => by rw [hK, hK, order_apply (hD a) (hD c)]) k
  have hslice : ∀ a : Fin 3, ((ix3 b p (k.castLE (by norm_num : 16 ≤ 2048)) : S16x2048x2048.Idx) a).val
      = 0 + ((ix3 b p k : S16x2048x16.Idx) a).val := fun a => by
    match a with
    | ⟨0, _⟩ => exact (Nat.zero_add _).symm
    | ⟨1, _⟩ => exact (Nat.zero_add _).symm
    | ⟨2, _⟩ => exact (Nat.zero_add _).symm
  unfold Host.topK
  dsimp only
  constructor
  · refine (extractStridedSlice_apply _ _ _ _ (ix3 b p (k.castLE (by norm_num))) hslice).trans ?_
    unfold Host.sort2
    rw [dif_pos (by decide : 2 < S16x2048x2048.rank)]
    dsimp only
    simp only [along_last]
    refine (congrArg (fun c => K (ix3 b p c)) hs).trans ?_
    rw [hK, nearScore]
  · refine (extractStridedSlice_apply _ _ _ _ (ix3 b p (k.castLE (by norm_num))) hslice).trans ?_
    unfold Host.sort2
    rw [dif_pos (by decide : 2 < S16x2048x2048.rank)]
    dsimp only
    simp only [along_last]
    exact congrArg (fun c : Fin 2048 => BitVec.ofNat 32 c.val) hs

/-! ## The two results -/

section Finite
variable (hX : ∀ i, IsReal (x i))
include hX

/-- The reference's sort on its own keys. -/
theorem picks (b : Fin 16) (p : Fin 2048) (k : Fin 16) :
    val_main_values (F := Ideal) x (ix3 b p k) = nearScore (nearRow (cloud x b) p) k
    ∧ val_main_indices (F := Ideal) x (ix3 b p k) = nearIdx (nearRow (cloud x b) p) k :=
  topK_picks (val_main_v21 (F := Ideal) x) b p (nearRow (cloud x b) p) (keys_apply x b p) (nearRow_nonneg _ p)
    (nearRow_lt_top (fun _ _ => hX _) p) k

/-- The scores: the sorted keys, negated twice and divided by one. -/
theorem score_apply (b : Fin 16) (p : Fin 2048) (k : Fin 16) :
    val_main_v25 (F := Ideal) x (ix3 b p k) = nearScore (nearRow (cloud x b) p) k := by
  rw [val_main_v25_apply, val_main_v23_apply, val_main_v22_apply, (picks x hX b p k).1, val_main_v24_apply]
  show Ideal.div (- -nearScore (nearRow (cloud x b) p) k) (Ideal.ofBits .f32 0x3F800000#32) = _
  rw [neg_neg, Ideal.ofBits_one_f32]
  simp [Ideal.div]

/-- The greatest score is the first. -/
theorem greatest_apply (b : Fin 16) (p : Fin 2048) :
    val_main_v28 (F := Ideal) x (ix2 b p) = nearScore (nearRow (cloud x b) p) 0 := by
  have bot : Ideal.ofBits .f32 0xFF800000#32 = ⊥ := by simp [Ideal.ofBits, Ideal.ieee]
  have hr : S16x2048x16.Reduces [2] S16x2048 := by decide
  have hl : ∀ k : Fin 16, hr.lift (ix2 b p) k = ix3 b p k := fun k => funext fun a => match a with
    | ⟨0, _⟩ => rfl | ⟨1, _⟩ => rfl | ⟨2, _⟩ => rfl
  have hf : val_main_v26 (F := Ideal) x (ix2 b p)
      = (Finset.univ : Finset (Fin 16)).fold max ⊥ (nearScore (nearRow (cloud x b) p)) := by
    refine (Host.reduce_eq_fold_single (max : EReal → EReal → EReal) (val_main_v25 (F := Ideal) x) (val_main_cst_4 (F := Ideal))
      reducesTo_S16x2048x16_S16x2048_d2 hr h_S_ (ix2 b p)).trans ?_
    refine congrArg₂ (fun z f => (Finset.univ : Finset (Fin 16)).fold max z f) bot (funext fun k => ?_)
    exact (congrArg (val_main_v25 (F := Ideal) x) (hl k)).trans (score_apply x hX b p k)
  rw [val_main_v28_apply, val_main_v27_apply, hf]
  refine (congrArg (max · _) bot).trans ((bot_sup_eq _).trans (le_antisymm ?_ ?_))
  · exact (Finset.fold_max_le _).mpr ⟨bot_le, fun k _ => nearScore_le_first (fun _ _ => hX _) p k⟩
  · exact (Finset.le_fold_max _).mpr (.inr ⟨0, Finset.mem_univ _, le_rfl⟩)

/-- The exponentials of the scores less the greatest. -/
theorem exps_apply (b : Fin 16) (p : Fin 2048) (k : Fin 16) :
    val_main_v32 (F := Ideal) x (ix3 b p k)
      = Ideal.exp (nearScore (nearRow (cloud x b) p) k - nearScore (nearRow (cloud x b) p) 0) := by
  have h : idx_main_v29 (idx_main_v30 (ix3 b p k)) = ix2 b p := funext fun a => match a with
    | ⟨0, _⟩ => rfl | ⟨1, _⟩ => rfl
  rw [val_main_v32_apply, val_main_v31_apply, score_apply x hX, val_main_v30_apply, val_main_v29_apply, h, greatest_apply x hX]
  rfl

/-- The reference's first result: the nearest points' numbers. -/
theorem indices_eq : val_main_indices (F := Ideal) x = nearestIdx x := by
  funext j
  rw [eq_ix3 j]
  exact (picks x hX _ _ _).2

/-- The reference's second result at an index. -/
theorem weight_apply (b : Fin 16) (p : Fin 2048) (k : Fin 16) :
    val_main_v36 (F := Ideal) x (ix3 b p k) = nearWeight (nearRow (cloud x b) p) k := by
  have h : idx_main_v34 (idx_main_v35 (ix3 b p k)) = ix2 b p := funext fun a => match a with
    | ⟨0, _⟩ => rfl | ⟨1, _⟩ => rfl
  rw [val_main_v36_apply, exps_apply x hX, val_main_v35_apply, val_main_v34_apply, h, val_main_v33_apply]
  refine congrArg (Ideal.div _) ?_
  refine (congrArg (· + _) Ideal.ofBits_zero_f32).trans ((zero_add _).trans (Finset.sum_congr rfl fun e _ => ?_))
  have he : idx_main_v33 (ix2 b p) e = ix3 b p e := funext fun a => match a with
    | ⟨0, _⟩ => rfl | ⟨1, _⟩ => rfl | ⟨2, _⟩ => rfl
  rw [he, exps_apply x hX]

/-- The reference's second result: the weights. -/
theorem weights_eq : val_main_v36 (F := Ideal) x = nearestWeights x := by
  funext j
  rw [eq_ix3 j]
  exact weight_apply x hX _ _ _

end Finite

/-- The reference's run, read: its two results as functions of the argument, the argument unchanged. -/
theorem run (m : (ℓ : Loc nD τ sig) → Buf (Elt Ideal) ℓ) (ρ : Dev nD → PrngReg)
    (hX : ∀ (c : Dev nD) (i : (⟨3, ![16, 2048, 64]⟩ : Shape).Idx), IsReal ((m ((c.tc : Thread nD τ).loc main_arg0) : Clouds) i)) :
    θ_run defs (onTc (τ := τ) (main (F := Ideal))) ⟨m, fun _ => 0, ρ⟩ fun r => ∀ c : Dev nD,
      r.2.mem ((c.tc : Thread nD τ).loc main_indices) = nearestIdx (m ((c.tc : Thread nD τ).loc main_arg0))
      ∧ r.2.mem ((c.tc : Thread nD τ).loc main_v36) = nearestWeights (m ((c.tc : Thread nD τ).loc main_arg0))
      ∧ r.2.mem ((c.tc : Thread nD τ).loc main_arg0) = m ((c.tc : Thread nD τ).loc main_arg0) :=
  (θ_run defs _ _).mono (fun _ h c => ⟨(h c).1.trans ((val_main_indices_eq (F := Ideal) _).trans (indices_eq _ (hX c))),
      (h c).2.1.trans ((val_main_v36_eq m c).trans (weights_eq _ (hX c))), (h c).2.2⟩)
    (Value.run (F := Ideal) m ρ)

end Cert.ReferenceIdeal.RefValue

end
-- ==== Proof.lean ====
/-
  The proof of `Cert.Claim`.

  The frames are the generated ones; the reference's is its run, which has no semaphore. The value claim reads both runs
  as the same two functions of the argument, `nearestIdx` and `nearestWeights` (`Proof/Distance.lean`): the kernel's by
  `Proof/Arrays.lean`, the reference's by `Proof/Reference.lean`. Both use that the argument is finite, which is what the
  precondition says (`finite_isReal`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Arrays
public import proofs.«01_k».proof.Proof.Reference
public import Idealize.ShloMosaic.Lib.Quiescent
public import Idealize.ShloMosaic.Adequacy
public import Idealize.ShloMosaic.Init

@[expose] public section

noncomputable section

namespace Cert.Proof

open Idealize.ShloMosaic Idealize.SL.Sem Cert.NearestRounds

/-- The precondition says every entry of the argument is a real number. -/
theorem finite_isReal [Cert.Pre_finite.Facts] (x : Clouds) (h : Cert.Pre_finite.fn (F := Ideal) x = fun _ => 1#1) (i) :
    IsReal (x i) := by
  have hi : BitVec.ofBool (decide (max (x i) (-x i) < Ideal.ofBits .f32 0x7F800000#32)) = 1#1 := congrFun h i
  have inf : Ideal.ofBits .f32 0x7F800000#32 = ⊤ := by simp [Ideal.ofBits, Ideal.ieee]
  rw [inf] at hi
  have hlt : max (x i) (-x i) < ⊤ := by
    by_contra hn
    simp [hn] at hi
  generalize x i = y at hlt
  induction y with
  | bot => exact absurd hlt (by simp)
  | top => exact absurd hlt (by simp)
  | coe r => exact ⟨r, rfl⟩

/-- The reference ends with its argument unchanged and every semaphore at zero. -/
theorem reference_quiescent : Cert.quiescent_ReferenceIdeal (hReferenceIdeal := Cert.ReferenceIdeal.Gen.facts) :=
  fun m ρ _ => (θ_run Cert.ReferenceIdeal.defs _ _).mono
    (fun r h => ⟨fun c => (h c).2.2, Idealize.ShloMosaic.sem_eq_zero_of_no_sems (by decide) r.2⟩)
    (Cert.ReferenceIdeal.Value.run (F := Ideal) m ρ)

/-- From finite arguments the kernel and the reference end with equal results. -/
theorem equal_results : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hagree
  have hX : ∀ c i, IsReal (Cert.KernelIdeal.RefValue.arg m c i) := fun c i => finite_isReal _ (hpre c) i
  refine ⟨fun c => nearestIdx (Cert.KernelIdeal.RefValue.arg m c), fun c => nearestWeights (Cert.KernelIdeal.RefValue.arg m c),
    Cert.KernelIdeal.RefValue.run m ρ hX, ?_⟩
  refine (θ_run Cert.ReferenceIdeal.defs _ _).mono (fun _ h c => ?_)
    (Cert.ReferenceIdeal.RefValue.run m' ρ' fun c i => (congrArg IsReal (congrFun (hagree c) i)).mpr (hX c i))
  exact ⟨(h c).1.trans (congrArg nearestIdx (hagree c)), (h c).2.1.trans (congrArg nearestWeights (hagree c)), (h c).2.2⟩

/-- Everything claimed. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ, fun m ρ _ => Cert.KernelIdeal.Gen.frame m ρ,
    fun m ρ _ => Cert.KernelIdeal.Gen.frame m ρ, reference_quiescent, fun m ρ _ => reference_quiescent m ρ trivial, trivial, equal_results⟩

end Cert.Proof

end
